-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S200000x128 : Shape := ⟨2, ![200000, 128]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x128 .f32) (main_arg1 : IVec S200000 32) (main_arg2 : FVec F S256x128 .f32) (main_arg3 : FVec F S128 .f32) (main_arg4 : FVec F S128x1 .f32) (main_arg5 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S200000x128 : Shape := ⟨2, ![200000, 128]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000 : Shape := ⟨1, ![100000]⟩
abbrev S25x1x4000 : Shape := ⟨3, ![25, 1, 4000]⟩
abbrev S1x128 : Shape := ⟨2, ![1, 128]⟩
abbrev S1x1 : Shape := ⟨2, ![1, 1]⟩
abbrev S512x128 : Shape := ⟨2, ![512, 128]⟩
abbrev S4000x128 : Shape := ⟨2, ![4000, 128]⟩
abbrev S1x1x4000 : Shape := ⟨3, ![1, 1, 4000]⟩
abbrev S512x1 : Shape := ⟨2, ![512, 1]⟩
abbrev S128x128 : Shape := ⟨2, ![128, 128]⟩
abbrev S4000x1 : Shape := ⟨2, ![4000, 1]⟩
abbrev S1x4000x1 : Shape := ⟨3, ![1, 4000, 1]⟩
abbrev S1x1x1 : Shape := ⟨3, ![1, 1, 1]⟩
abbrev S1x4000 : Shape := ⟨2, ![1, 4000]⟩
abbrev S512x4000 : Shape := ⟨2, ![512, 4000]⟩

abbrev nBuf : Space → Nat
  | .hbm => 11
  | .vmem => 13
  | .smem => 1
  | _ => 0

abbrev bufTy : (tb : Table) → Fin (tcTables nBuf tb) → BufTy
  | .hbm, ⟨0, _⟩ => ⟨S200000x128, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S25x1x4000, .i32⟩
  | .hbm, ⟨8, _⟩ => ⟨S1x128, .f32⟩
  | .hbm, ⟨9, _⟩ => ⟨S1x1, .f32⟩
  | .hbm, ⟨10, _⟩ => ⟨S512x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S1x1x4000, .i32⟩
  | .local _ .vmem, ⟨9, _⟩ => ⟨S1x1x4000, .i32⟩
  | .local _ .vmem, ⟨10, _⟩ => ⟨S512x128, .f32⟩
  | .local _ .vmem, ⟨11, _⟩ => ⟨S512x128, .f32⟩
  | .local _ .vmem, ⟨12, _⟩ => ⟨S512x1, .f32⟩
  | .local _ .smem, ⟨0, _⟩ => ⟨S1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32 : BitVec 32 := 24#32
  let v55 : BitVec 1 := Scalar.cmpi .eq arg0 c24_i32
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x4000 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S200000x128 : Shape := ⟨2, ![200000, 128]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000 : Shape := ⟨1, ![100000]⟩
abbrev S100000x128 : Shape := ⟨2, ![100000, 128]⟩
abbrev S100000x256 : Shape := ⟨2, ![100000, 256]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S1x100000 : Shape := ⟨2, ![1, 100000]⟩
abbrev S512 : Shape := ⟨1, ![512]⟩
abbrev S512x1 : Shape := ⟨2, ![512, 1]⟩
abbrev S512x100000 : Shape := ⟨2, ![512, 100000]⟩
abbrev S512x128 : Shape := ⟨2, ![512, 128]⟩

abbrev nBuf : Space → Nat
  | .hbm => 69
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000x256, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S100000x1, .f32⟩
  | .hbm, ⟨19, _⟩ => ⟨S1x1, .f32⟩
  | .hbm, ⟨20, _⟩ => ⟨S100000x1, .f32⟩
  | .hbm, ⟨21, _⟩ => ⟨S100000x1, .f32⟩
  | .hbm, ⟨22, _⟩ => ⟨S100000, .f32⟩
  | .hbm, ⟨23, _⟩ => ⟨S1x100000, .i32⟩
  | .hbm, ⟨24, _⟩ => ⟨S512, .i32⟩
  | .hbm, ⟨25, _⟩ => ⟨S512x1, .i32⟩
  | .hbm, ⟨26, _⟩ => ⟨S512x100000, .i32⟩
  | .hbm, ⟨27, _⟩ => ⟨S512x100000, .i32⟩
  | .hbm, ⟨28, _⟩ => ⟨S512x100000, .i1⟩
  | .hbm, ⟨29, _⟩ => ⟨S1x100000, .f32⟩
  | .hbm, ⟨30, _⟩ => ⟨S_, .f32⟩
  | .hbm, ⟨31, _⟩ => ⟨S_, .f32⟩
  | .hbm, ⟨32, _⟩ => ⟨S512x100000, .f32⟩
  | .hbm, ⟨33, _⟩ => ⟨S512x100000, .f32⟩
  | .hbm, ⟨34, _⟩ => ⟨S512x100000, .f32⟩
  | .hbm, ⟨35, _⟩ => ⟨S_, .f32⟩
  | .hbm, ⟨36, _⟩ => ⟨S512, .f32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S512, .f32⟩
  | .hbm, ⟨50, _⟩ => ⟨S100000x1, .i32⟩
  | .hbm, ⟨51, _⟩ => ⟨S512, .f32⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000, .i32⟩
  | .hbm, ⟨59, _⟩ => ⟨S100000x1, .i32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S512x128, .f32⟩
  | .hbm, ⟨67, _⟩ => ⟨S100000x1, .i32⟩
  | .hbm, ⟨68, _⟩ => ⟨S512x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Blocks.lean ====
module

public import proofs.«01_k».proof.Proof.Gen.KernelIdeal.Value
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ)

/-- The windows' block indices at every grid point, and the number of points. -/
theorem idx : ∀ t : Fin cfg0.N, win0_0.index t = ![t.val, 0] ∧ win0_1.index t = ![t.val + 25, 0] ∧ win0_2.index t = ![0, 0]
    ∧ win0_3.index t = ![0, 0] ∧ win0_4.index t = ![0, 0] ∧ win0_5.index t = ![0, 0] ∧ win0_6.index t = ![t.val, 0, 0] ∧ t.val < 25 :=
  (by decide +kernel : ∀ t : Fin grid0.N, _)

theorem iblk0 (c : Dev nD) (t : Fin cfg0.N) (n : Fin 4000) (k : Fin 128) (h : 4000 * t.val + n.val < 200000) :
    iblk m c 0 t (ix2 n k) = m ((c : Thread nD τ).loc main_arg0) (ix2 ⟨4000 * t.val + n.val, h⟩ k) := by
  blk_ext [iblk, V, idx t]
theorem iblk1 (c : Dev nD) (t : Fin cfg0.N) (n : Fin 4000) (k : Fin 128) (h : 100000 + (4000 * t.val + n.val) < 200000) :
    iblk m c 1 t (ix2 n k) = m ((c : Thread nD τ).loc main_arg0) (ix2 ⟨100000 + (4000 * t.val + n.val), h⟩ k) := by
  blk_ext [iblk, V, idx t]
theorem iblk2 (c : Dev nD) (t : Fin cfg0.N) (n : Fin 256) (k : Fin 128) :
    iblk m c 2 t (ix2 n k) = m ((c : Thread nD τ).loc main_arg2) (ix2 n k) := by
  blk_ext [iblk, V, idx t]
theorem iblk3 (c : Dev nD) (t : Fin cfg0.N) (k : Fin 128) :
    iblk m c 3 t (ix2 0 k) = m ((c : Thread nD τ).loc main_arg3) (ix1 k) := by
  blk_simp [iblk, idx t]
  entry_read
  pointwise
  blk_ext [idx t]
theorem iblk4 (c : Dev nD) (t : Fin cfg0.N) (k : Fin 128) :
    iblk m c 4 t (ix2 k 0) = m ((c : Thread nD τ).loc main_arg4) (ix2 k 0) := by
  blk_ext [iblk, V, idx t]
theorem iblk5 (c : Dev nD) (t : Fin cfg0.N) :
    iblk m c 5 t (ix2 0 0) = m ((c : Thread nD τ).loc main_arg5) (ix1 0) := by
  blk_simp [iblk, idx t]
  entry_read
  pointwise
  blk_ext [idx t]
theorem iblk6 (c : Dev nD) (t : Fin cfg0.N) (n : Fin 4000) (h : 4000 * t.val + n.val < 200000) :
    iblk m c 6 t (ix3 0 0 n) = m ((c : Thread nD τ).loc main_arg1) (ix1 ⟨4000 * t.val + n.val, h⟩) := by
  blk_simp [iblk, idx t]
  entry_read
  pointwise
  blk_ext [idx t]
end Cert.KernelIdeal.Value
-- ==== Proof.Reals.lean ====
module

public import Idealize.ShloMosaic.PureOps.Ideal
public import Idealize.ShloMosaic.Lib.Pipeline.ValueKit

@[expose] public section

noncomputable section
open Idealize.ShloMosaic
namespace Cert.Soft
open Finset

/-- A sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s h ih => rw [sum_insert h, sum_insert h, EReal.coe_add, ih]

/-- The larger of two reals, read in the extended reals. -/
theorem coe_max (x y : ℝ) : ((max x y : ℝ) : EReal) = max (x : EReal) (y : EReal) :=
  EReal.coe_strictMono.monotone.map_max

/-- A real read only where a condition holds, and zero elsewhere. -/
theorem coe_ite (p : Prop) [Decidable p] (x y : ℝ) :
    ((if p then x else y : ℝ) : EReal) = if p then (x : EReal) else (y : EReal) := by
  split <;> rfl

/-- The maximum of a finite family that starts from minus infinity is a real, if no member is plus infinity and some
    member is not minus infinity. -/
theorem fold_max_real {ι : Type*} (s : Finset ι) (f : ι → EReal) (hf : ∀ i ∈ s, f i ≠ ⊤) (hne : ∃ i ∈ s, f i ≠ ⊥) :
    ∃ M : ℝ, s.fold max ⊥ f = (M : EReal) := by
  have h1 : s.fold max ⊥ f < ⊤ :=
    (Finset.fold_max_lt _).2 ⟨bot_lt_top, fun i hi => lt_top_iff_ne_top.2 (hf i hi)⟩
  have h2 : ⊥ < s.fold max ⊥ f := by
    obtain ⟨i, hi, h⟩ := hne
    exact (Finset.lt_fold_max _).2 (Or.inr ⟨i, hi, bot_lt_iff_ne_bot.2 h⟩)
  exact ⟨_, (EReal.coe_toReal h1.ne h2.ne').symm⟩

/-- The same over every member of a finite type. -/
theorem fold_max_univ {ι : Type*} [Fintype ι] (f : ι → EReal) (hf : ∀ i, f i ≠ ⊤) (i : ι) (hi : f i ≠ ⊥) :
    ∃ M : ℝ, Finset.univ.fold max ⊥ f = (M : EReal) :=
  fold_max_real _ f (fun i _ => hf i) ⟨i, mem_univ i, hi⟩

/-- The score of one row: two rows of features through the two halves of the first layer, a bias, the positive part,
    the second layer and its bias. -/
def rawOf (a b : Fin 128 → ℝ) (wa wb : Fin 128 → Fin 128 → ℝ) (b1 w2 : Fin 128 → ℝ) (b2 : ℝ) : ℝ :=
  ∑ h, max (∑ k, a k * (wa k h + wb k h) - ∑ k, b k * wb k h + b1 h) 0 * w2 h + b2

/-- The same score with the second half of the first layer applied to the difference of the two rows. -/
theorem rawOf_diff (a b : Fin 128 → ℝ) (wa wb : Fin 128 → Fin 128 → ℝ) (b1 w2 : Fin 128 → ℝ) (b2 : ℝ) :
    ∑ h, max (∑ k, a k * wa k h + ∑ k, (a k - b k) * wb k h + b1 h) 0 * w2 h + b2 = rawOf a b wa wb b1 w2 b2 := by
  unfold rawOf
  congr 1
  refine sum_congr rfl fun h _ => ?_
  congr 3
  rw [← sum_add_distrib, ← sum_sub_distrib]
  exact sum_congr rfl fun k _ => by ring

/-- The weights `w` of the first `N` rows that belong to segment `g`, each times the exponential of its score less `M`,
    summed. -/
def esum (seg : ℕ → BitVec 32) (r w : ℕ → ℝ) (g : BitVec 32) (N : ℕ) (M : ℝ) : ℝ :=
  ∑ j ∈ range N, if seg j = g then w j * Real.exp (r j - M) else 0

variable (seg : ℕ → BitVec 32) (r w : ℕ → ℝ) (g : BitVec 32)

/-- Another number subtracted from the scores multiplies the sum by one exponential. -/
theorem esum_shift (N : ℕ) (M M' : ℝ) : esum seg r w g N M * Real.exp (M - M') = esum seg r w g N M' := by
  unfold esum
  rw [sum_mul]
  refine sum_congr rfl fun j _ => ?_
  split
  · rw [mul_assoc, ← Real.exp_add]
    congr 2
    ring
  · rw [zero_mul]

/-- One block of rows more adds the block's own sum. -/
theorem esum_block (B t : ℕ) (M : ℝ) : esum seg r w g (B * (t + 1)) M
    = esum seg r w g (B * t) M
      + ∑ k : Fin B, if seg (B * t + k.val) = g then w (B * t + k.val) * Real.exp (r (B * t + k.val) - M) else 0 := by
  unfold esum
  rw [Nat.mul_succ, sum_range_add, Finset.sum_range (n := B)]

/-- The step of the running sum: the sum so far taken from its shift to a new one, and the block's sum taken from the
    block's shift to the new one, give the sum over both at the new shift. -/
theorem esum_step (B t : ℕ) (M₁ M₂ M : ℝ) :
    esum seg r w g (B * t) M₁ * Real.exp (M₁ - M)
      + (∑ k : Fin B, if seg (B * t + k.val) = g then w (B * t + k.val) * Real.exp (r (B * t + k.val) - M₂) else 0)
        * Real.exp (M₂ - M)
    = esum seg r w g (B * (t + 1)) M := by
  rw [esum_shift, esum_block, sum_mul]
  congr 1
  refine sum_congr rfl fun j _ => ?_
  split
  · rw [mul_assoc, ← Real.exp_add]
    congr 2
    ring
  · rw [zero_mul]

/-- The first block alone. -/
theorem esum_first (B : ℕ) (M : ℝ) : esum seg r w g (B * (0 + 1)) M
    = ∑ k : Fin B, if seg (B * 0 + k.val) = g then w (B * 0 + k.val) * Real.exp (r (B * 0 + k.val) - M) else 0 := by
  rw [esum_block]
  simp [esum]

/-- Where the sum of the exponentials is not positive, no row belongs to the segment. -/
theorem esum_one_pos (N : ℕ) (M : ℝ) (j : ℕ) (hj : j < N) (h : seg j = g) : 0 < esum seg r (fun _ => 1) g N M := by
  unfold esum
  refine sum_pos' (fun i _ => ?_) ⟨j, mem_range.2 hj, ?_⟩
  · split
    · positivity
    · exact le_rfl
  · rw [if_pos h]
    positivity

/-- The running quotient at any shift is the sum of the weights times the normalized exponentials at any other shift;
    both are zero where the segment is empty. -/
theorem esum_final (N : ℕ) (M mx : ℝ) :
    esum seg r w g N M * (if 0 < esum seg r (fun _ => 1) g N M then 1 / esum seg r (fun _ => 1) g N M else 0)
    = ∑ j ∈ range N, if seg j = g then Real.exp (r j - mx) / esum seg r (fun _ => 1) g N mx * w j else 0 := by
  by_cases h : 0 < esum seg r (fun _ => 1) g N M
  · rw [if_pos h]
    have h0 := Real.exp_ne_zero (mx - M)
    rw [← esum_shift seg r w g N mx M]
    rw [← esum_shift seg r (fun _ => 1) g N mx M] at h ⊢
    have h1 : esum seg r (fun _ => 1) g N mx ≠ 0 := fun e => by rw [e, zero_mul] at h; exact lt_irrefl _ h
    have h2 : ∑ j ∈ range N, (if seg j = g then Real.exp (r j - mx) / esum seg r (fun _ => 1) g N mx * w j else 0)
        = esum seg r w g N mx * (esum seg r (fun _ => 1) g N mx)⁻¹ := by
      conv_rhs => rw [esum, sum_mul]
      refine sum_congr rfl fun j _ => ?_
      split
      · rw [div_eq_mul_inv]
        ring
      · rw [zero_mul]
    rw [h2]
    field_simp
  · have hn : ∀ j ∈ range N, seg j ≠ g := fun j hj e => h (esum_one_pos seg r g N M j (mem_range.1 hj) e)
    rw [if_neg h, mul_zero]
    exact (sum_eq_zero fun j hj => if_neg (hn j hj)).symm

end Cert.Soft
-- ==== Proof.Payloads.lean ====
module

public import proofs.«01_k».proof.Proof.Gen.KernelIdeal.Skeleton
public import proofs.«01_k».proof.Proof.Reals
public import Idealize.ShloMosaic.Lib.Pipeline.ValueKit
public import Idealize.ShloMosaic.Lib.Pointwise

@[expose] public section

set_option maxRecDepth 16384
noncomputable section
open Idealize.ShloMosaic Idealize.SL.Sem
namespace Cert.KernelIdeal.Value
open Cert.KernelIdeal Cert.KernelIdeal.Gen Cert.Soft

/-- The pattern of minus infinity is the least extended real. -/
theorem negInf : Ideal.ofBits .f32 0xFF800000#32 = (⊥ : EReal) := by simp [Ideal.ofBits, Ideal.ieee]

/-- The one-hot matrix of the segment numbers: one where row `n` belongs to segment `g`, zero elsewhere. -/
theorem pay1_at (v34 : Vec Ideal S1x1x4000 .i32) (g : Fin 512) (n : Fin 4000) :
    k0_pay1 (F := Ideal) v34 (ix2 g n) = (((if v34 (ix3 0 0 n) = BitVec.ofNat 32 g.val then 1 else 0 : ℝ)) : EReal) := by
  pointwise [k0_pay1]
  by_cases h : v34 (ix3 0 0 n) = BitVec.ofNat 32 g.val
  · rw [if_pos h, h]
    simp [IntOp.cmpi, FloatOps.sitofp]
  · rw [if_neg h]
    have e : (v34 (ix3 0 0 n) == BitVec.ofNat 32 g.val) = false := by simpa using h
    simp [IntOp.cmpi, FloatOps.sitofp, e]

variable (v0 v1 : Vec Ideal S4000x128 .f32) (v2 v3 v6 : Vec Ideal S128x128 .f32) (v13 : Vec Ideal S1x128 .f32)
  (v20 : Vec Ideal S128x1 .f32) (v23 : Vec Ideal S1x1 .f32) (v30 : Ideal .f32) (v33 : FVec Ideal S4000x1 .f32)
  (v34 : Vec Ideal S1x1x4000 .i32)

/-- The block's weighted sum per segment: the one-hot matrix times the rows' differences times their exponentials. -/
theorem pay2_at (a b : Fin 4000 → Fin 128 → ℝ) (e : Fin 4000 → ℝ) (h0 : ∀ n k, v0 (ix2 n k) = (a n k : EReal))
    (h1 : ∀ n k, v1 (ix2 n k) = (b n k : EReal)) (he : ∀ n, v33 (ix2 n 0) = (e n : EReal)) (g : Fin 512) (d : Fin 128) :
    k0_pay2 (F := Ideal) v0 v1 v33 v34 (ix2 g d)
      = ((∑ n : Fin 4000, if v34 (ix3 0 0 n) = BitVec.ofNat 32 g.val then (a n d - b n d) * e n else 0 : ℝ) : EReal) := by
  pointwise [k0_pay2]
  rw [coe_sum]
  refine Finset.sum_congr rfl fun n _ => ?_
  rw [pay1_at, h0, h1, he, ← EReal.coe_sub, ← EReal.coe_mul, ← EReal.coe_mul, ite_mul, one_mul, zero_mul]

/-- The block's sum of exponentials per segment. -/
theorem pay3_at (e : Fin 4000 → ℝ) (he : ∀ n, v33 (ix2 n 0) = (e n : EReal)) (g : Fin 512) :
    k0_pay3 (F := Ideal) v33 v34 (ix2 g 0)
      = ((∑ n : Fin 4000, if v34 (ix3 0 0 n) = BitVec.ofNat 32 g.val then e n else 0 : ℝ) : EReal) := by
  pointwise [k0_pay3]
  rw [coe_sum]
  refine Finset.sum_congr rfl fun n _ => ?_
  rw [pay1_at, he, ← EReal.coe_mul, ite_mul, one_mul, zero_mul]

/-- The new shift of two real shifts is the larger one. -/
theorem pay6_at (x y : ℝ) : k0_pay6 (F := Ideal) (y : EReal) (x : EReal) = ((max x y : ℝ) : EReal) := by
  pointwise [k0_pay6]
  exact (coe_max x y).symm

/-- The factor on what has been summed so far. -/
theorem pay7_at (x y : ℝ) : k0_pay7 (F := Ideal) (y : EReal) (x : EReal) = ((Real.exp (x - max x y) : ℝ) : EReal) := by
  unfold k0_pay7
  rw [pay6_at]
  show Ideal.exp ((x : EReal) - ((max x y : ℝ) : EReal)) = _
  rw [← EReal.coe_sub, Ideal.exp_coe]

/-- The factor on the block's own sums. -/
theorem pay8_at (x y : ℝ) : k0_pay8 (F := Ideal) (y : EReal) (x : EReal) = ((Real.exp (y - max x y) : ℝ) : EReal) := by
  unfold k0_pay8
  rw [pay6_at]
  show Ideal.exp ((y : EReal) - ((max x y : ℝ) : EReal)) = _
  rw [← EReal.coe_sub, Ideal.exp_coe]

/-- The weighted sums after a later block: the old ones and the block's, each times its factor. -/
theorem pay9_at (x y : ℝ) (v64 : Vec Ideal S512x128 .f32) (p q : ℝ) (g : Fin 512) (d : Fin 128) (hp : v64 (ix2 g d) = (p : EReal))
    (hq : k0_pay2 (F := Ideal) v0 v1 v33 v34 (ix2 g d) = (q : EReal)) :
    k0_pay9 (F := Ideal) v0 v1 (y : EReal) v33 v34 (x : EReal) v64 (ix2 g d)
      = ((p * Real.exp (x - max x y) + q * Real.exp (y - max x y) : ℝ) : EReal) := by
  pointwise [k0_pay9]
  rw [hp, hq, pay7_at, pay8_at, ← EReal.coe_mul, ← EReal.coe_mul, ← EReal.coe_add]

/-- The sums of exponentials after a later block. -/
theorem pay10_at (x y : ℝ) (v73 : Vec Ideal S512x1 .f32) (p q : ℝ) (g : Fin 512) (hp : v73 (ix2 g 0) = (p : EReal))
    (hq : k0_pay3 (F := Ideal) v33 v34 (ix2 g 0) = (q : EReal)) :
    k0_pay10 (F := Ideal) (y : EReal) v33 v34 (x : EReal) v73 (ix2 g 0)
      = ((p * Real.exp (x - max x y) + q * Real.exp (y - max x y) : ℝ) : EReal) := by
  pointwise [k0_pay10]
  rw [hp, hq, pay7_at, pay8_at, ← EReal.coe_mul, ← EReal.coe_mul, ← EReal.coe_add]

/-- The stored result: the weighted sum divided by the sum of exponentials where that is positive, and zero elsewhere. -/
theorem pay11_at (v58 : Vec Ideal S512x1 .f32) (v59 : Vec Ideal S512x128 .f32) (p q : ℝ) (g : Fin 512) (d : Fin 128)
    (hp : v59 (ix2 g d) = (p : EReal)) (hq : v58 (ix2 g 0) = (q : EReal)) :
    k0_pay11 (F := Ideal) v58 v59 (ix2 g d) = ((p * (if 0 < q then 1 / q else 0) : ℝ) : EReal) := by
  pointwise [k0_pay11]
  rw [hp, hq]
  by_cases h : 0 < q
  · rw [if_pos (EReal.coe_pos.2 h), if_pos h, Ideal.div_coe h.ne', one_mul, ← EReal.coe_mul]
  · rw [if_neg fun e => h (EReal.coe_pos.1 e), if_neg h, mul_zero, mul_zero, EReal.coe_zero]

/-- A row's score, where every entry it reads is a real. -/
theorem pay12_at (a b : Fin 4000 → Fin 128 → ℝ) (wa wb : Fin 128 → Fin 128 → ℝ) (b1 w2 : Fin 128 → ℝ) (b2 : ℝ)
    (h0 : ∀ n k, v0 (ix2 n k) = (a n k : EReal)) (h1 : ∀ n k, v1 (ix2 n k) = (b n k : EReal))
    (h2 : ∀ k h, v2 (ix2 k h) = (wa k h : EReal)) (h3 : ∀ k h, v3 (ix2 k h) = (wb k h : EReal))
    (h6 : ∀ k h, v6 (ix2 k h) = (wb k h : EReal)) (h13 : ∀ h, v13 (ix2 0 h) = (b1 h : EReal))
    (h20 : ∀ h, v20 (ix2 h 0) = (w2 h : EReal)) (h23 : v23 (ix2 0 0) = (b2 : EReal)) (n : Fin 4000) :
    k0_pay12 (F := Ideal) v0 v1 v2 v3 v6 v13 v20 v23 (ix2 n 0) = ((rawOf (a n) (b n) wa wb b1 w2 b2 : ℝ) : EReal) := by
  pointwise [k0_pay12]
  unfold rawOf
  simp only [h0, h1, h2, h3, h6, h13, h20, h23, EReal.coe_add, EReal.coe_sub, EReal.coe_mul, coe_sum, coe_max, EReal.coe_zero]

/-- The block's shift, the maximum of its scores, is a real where the scores are. -/
theorem pay13_real (r : Fin 4000 → ℝ) (hr : ∀ n, k0_pay12 (F := Ideal) v0 v1 v2 v3 v6 v13 v20 v23 (ix2 n 0) = (r n : EReal)) :
    ∃ M : ℝ, k0_pay13 (F := Ideal) v0 v1 v2 v3 v6 v13 v20 v23 = (M : EReal) := by
  pointwise [k0_pay13]
  rw [negInf]
  exact fold_max_univ _ (fun i => ne_of_eq_of_ne (hr _) (EReal.coe_ne_top _)) (⟨0, by norm_num⟩, 0)
    (ne_of_eq_of_ne (hr _) (EReal.coe_ne_bot _))

/-- A row's exponential: of its score less the block's shift. -/
theorem pay14_at (r : Fin 4000 → ℝ) (M : ℝ) (hr : ∀ n, k0_pay12 (F := Ideal) v0 v1 v2 v3 v6 v13 v20 v23 (ix2 n 0) = (r n : EReal))
    (hM : k0_pay13 (F := Ideal) v0 v1 v2 v3 v6 v13 v20 v23 = (M : EReal)) (n : Fin 4000) :
    k0_pay14 (F := Ideal) v0 v1 v2 v3 v6 v13 v20 v23 (ix2 n 0) = ((Real.exp (r n - M) : ℝ) : EReal) := by
  pointwise [k0_pay14]
  rw [hr, hM, ← EReal.coe_sub, Ideal.exp_coe]

end Cert.KernelIdeal.Value
-- ==== Proof.State.lean ====
module

public import proofs.«01_k».proof.Proof.Blocks
public import proofs.«01_k».proof.Proof.Payloads
public import Idealize.ShloMosaic.Lib.Pipeline.ReadBack

@[expose] public section

set_option maxRecDepth 16384
noncomputable section
open Idealize.ShloMosaic Idealize.ShloMosaic.TcCoe Idealize.SL.Sem
namespace Cert.KernelIdeal.Value
open Cert.KernelIdeal Cert.KernelIdeal.Gen Cert.Soft
variable (m : (ℓ : Loc nD τ sig) → Buf (Elt Ideal) ℓ)

/-- What the kernel carries from one grid point to the next: the output block, the weighted sums, the sums of
    exponentials, and the shift. -/
abbrev St : Type := Vec Ideal S512x128 .f32 × Vec Ideal S512x128 .f32 × Vec Ideal S512x1 .f32 × Vec Ideal S1 .f32

/-- A one-element array has one index. -/
theorem one_idx (j : S1.Idx) : j = ix1 0 := by
  rw [eq_ix1 j]
  exact congrArg ix1 (Subsingleton.elim (α := Fin 1) _ _)

/-- The upper half of the first layer's weights, as a point loads it. -/
def wTop (c : Dev nD) (t : Fin cfg0.N) : Vec Ideal S128x128 .f32 :=
  View.ld (iblk m c 2 t) (Rect.unit ![0, 0] ![128, 128] inb_S256x128_S128x128_0_0)

/-- The lower half. -/
def wBot (c : Dev nD) (t : Fin cfg0.N) : Vec Ideal S128x128 .f32 :=
  View.ld (iblk m c 2 t) (Rect.unit ![128, 0] ![128, 128] inb_S256x128_S128x128_128_0)

/-- The shift of the block of point `t`. -/
def blkMax (c : Dev nD) (t : Fin cfg0.N) : Ideal .f32 :=
  k0_pay13 (iblk m c 0 t) (iblk m c 1 t) (wTop m c t) (wBot m c t) (wBot m c t) (iblk m c 3 t) (iblk m c 4 t) (iblk m c 5 t)

/-- The exponentials of the block of point `t`. -/
def blkExp (c : Dev nD) (t : Fin cfg0.N) : FVec Ideal S4000x1 .f32 :=
  k0_pay14 (iblk m c 0 t) (iblk m c 1 t) (wTop m c t) (wBot m c t) (wBot m c t) (iblk m c 3 t) (iblk m c 4 t) (iblk m c 5 t)

theorem stA_num (c : Dev nD) (t : Fin cfg0.N) (acc : St) (h0 : t.val % 25 = 0) (h1 : ¬1 ≤ t.val) (h2 : ¬t.val % 25 = 24) :
    (stAt0 m c t.val t.isLt acc).2.1 = k0_pay4 (iblk m c 0 t) (iblk m c 1 t) (blkExp m c t) (iblk m c 6 t) := by
  rw [stAt0_A m c t acc h0 h1 h2]
  dsimp only
  funext j
  frame_out
  rfl

theorem stA_den (c : Dev nD) (t : Fin cfg0.N) (acc : St) (h0 : t.val % 25 = 0) (h1 : ¬1 ≤ t.val) (h2 : ¬t.val % 25 = 24) :
    (stAt0 m c t.val t.isLt acc).2.2.1 = k0_pay5 (blkExp m c t) (iblk m c 6 t) := by
  rw [stAt0_A m c t acc h0 h1 h2]
  dsimp only
  funext j
  frame_out
  rfl

theorem stA_max (c : Dev nD) (t : Fin cfg0.N) (acc : St) (h0 : t.val % 25 = 0) (h1 : ¬1 ≤ t.val) (h2 : ¬t.val % 25 = 24) :
    (stAt0 m c t.val t.isLt acc).2.2.2 = fun _ => blkMax m c t := by
  rw [stAt0_A m c t acc h0 h1 h2]
  dsimp only
  funext j
  frame_out
  rfl

theorem stB_num (c : Dev nD) (t : Fin cfg0.N) (acc : St) (h0 : ¬t.val % 25 = 0) (h1 : 1 ≤ t.val) (h2 : ¬t.val % 25 = 24) :
    (stAt0 m c t.val t.isLt acc).2.1
      = k0_pay9 (iblk m c 0 t) (iblk m c 1 t) (blkMax m c t) (blkExp m c t) (iblk m c 6 t) (acc.2.2.2 (ix1 0)) acc.2.1 := by
  rw [stAt0_B m c t acc h0 h1 h2]
  dsimp only
  funext j
  frame_out
  simp only [read_unread_whole]
  rw [one_idx (Shape.Idx.first _)]
  rfl

theorem stB_den (c : Dev nD) (t : Fin cfg0.N) (acc : St) (h0 : ¬t.val % 25 = 0) (h1 : 1 ≤ t.val) (h2 : ¬t.val % 25 = 24) :
    (stAt0 m c t.val t.isLt acc).2.2.1
      = k0_pay10 (blkMax m c t) (blkExp m c t) (iblk m c 6 t) (acc.2.2.2 (ix1 0)) acc.2.2.1 := by
  rw [stAt0_B m c t acc h0 h1 h2]
  dsimp only
  funext j
  frame_out
  simp only [read_unread_whole]
  rw [one_idx (Shape.Idx.first _)]
  rfl

theorem stB_max (c : Dev nD) (t : Fin cfg0.N) (acc : St) (h0 : ¬t.val % 25 = 0) (h1 : 1 ≤ t.val) (h2 : ¬t.val % 25 = 24) :
    (stAt0 m c t.val t.isLt acc).2.2.2 = fun _ => k0_pay6 (blkMax m c t) (acc.2.2.2 (ix1 0)) := by
  rw [stAt0_B m c t acc h0 h1 h2]
  dsimp only
  funext j
  frame_out
  simp only [read_unread_whole]
  rw [one_idx (Shape.Idx.first _)]
  rfl

theorem stC_out (c : Dev nD) (t : Fin cfg0.N) (acc : St) (h0 : ¬t.val % 25 = 0) (h1 : 1 ≤ t.val) (h2 : t.val % 25 = 24) :
    (stAt0 m c t.val t.isLt acc).1
      = k0_pay11 (k0_pay10 (blkMax m c t) (blkExp m c t) (iblk m c 6 t) (acc.2.2.2 (ix1 0)) acc.2.2.1)
          (k0_pay9 (iblk m c 0 t) (iblk m c 1 t) (blkMax m c t) (blkExp m c t) (iblk m c 6 t) (acc.2.2.2 (ix1 0)) acc.2.1) := by
  rw [stAt0_C m c t acc h0 h1 h2]
  dsimp only
  funext j
  frame_out
  simp only [read_unread_whole]
  rw [one_idx (Shape.Idx.first _)]
  rfl
end Cert.KernelIdeal.Value
-- ==== Proof.Data.lean ====
module

public import proofs.«01_k».proof.Proof.Reals
public import Idealize.ShloMosaic.Lib.Pointwise

@[expose] public section

noncomputable section
open Idealize.ShloMosaic
namespace Cert.Soft

/-- Every element of the array is a real number. -/
def AllReal {S : Shape} (x : FVec Ideal S .f32) : Prop := ∀ i, ∃ r : ℝ, x i = (r : EReal)

/-- An element of an array of reals is the real that `toReal` gives. -/
theorem AllReal.eq {S : Shape} {x : FVec Ideal S .f32} (h : AllReal x) (i : S.Idx) : x i = ((EReal.toReal (x i) : ℝ) : EReal) := by
  obtain ⟨r, e⟩ := h i
  rw [e]
  rfl

variable (X : FVec Ideal ⟨2, ![200000, 128]⟩ .f32) (B : IVec ⟨1, ![200000]⟩ 32) (W1 : FVec Ideal ⟨2, ![256, 128]⟩ .f32)
  (b1 : FVec Ideal ⟨1, ![128]⟩ .f32) (W2 : FVec Ideal ⟨2, ![128, 1]⟩ .f32) (b2 : FVec Ideal ⟨1, ![1]⟩ .f32)

/-- Row `j` of the features, as reals. -/
def feat (j : ℕ) (k : Fin 128) : ℝ := if h : j < 200000 then EReal.toReal (X (ix2 ⟨j, h⟩ k)) else 0

/-- The segment number of row `j`. -/
def segOf (j : ℕ) : BitVec 32 := if h : j < 200000 then B (ix1 ⟨j, h⟩) else 0

/-- The upper half of the first layer's weights, as reals. -/
def waOf (k h : Fin 128) : ℝ := EReal.toReal (W1 (ix2 ⟨k.val, by omega⟩ h))

/-- The lower half. -/
def wbOf (k h : Fin 128) : ℝ := EReal.toReal (W1 (ix2 ⟨128 + k.val, by omega⟩ h))

/-- The first bias, as reals. -/
def b1Of (h : Fin 128) : ℝ := EReal.toReal (b1 (ix1 h))

/-- The second layer's weights, as reals. -/
def w2Of (h : Fin 128) : ℝ := EReal.toReal (W2 (ix2 h 0))

/-- The second bias, as a real. -/
def b2Of : ℝ := EReal.toReal (b2 (ix1 0))

/-- The score of row `j`. -/
def scoreOf (j : ℕ) : ℝ := rawOf (feat X j) (feat X (100000 + j)) (waOf W1) (wbOf W1) (b1Of b1) (w2Of W2) (b2Of b2)

/-- Column `d` of the difference of row `j` of the two halves of the features. -/
def diffOf (d : Fin 128) (j : ℕ) : ℝ := feat X j d - feat X (100000 + j) d

theorem feat_coe (hX : AllReal X) (j : ℕ) (h : j < 200000) (k : Fin 128) : X (ix2 ⟨j, h⟩ k) = (feat X j k : EReal) := by
  rw [feat, dif_pos h]
  exact hX.eq _

theorem segOf_eq (j : ℕ) (h : j < 200000) : B (ix1 ⟨j, h⟩) = segOf B j := by
  rw [segOf, dif_pos h]

end Cert.Soft
-- ==== Proof.Invariant.lean ====
module

public import proofs.«01_k».proof.Proof.State
public import proofs.«01_k».proof.Proof.Data

@[expose] public section

set_option maxRecDepth 16384
noncomputable section
open Idealize.ShloMosaic Idealize.ShloMosaic.TcCoe Idealize.SL.Sem
namespace Cert.KernelIdeal.Value
open Cert.KernelIdeal Cert.KernelIdeal.Gen Cert.Soft
variable (m : (ℓ : Loc nD τ sig) → Buf (Elt Ideal) ℓ)

/-- The argument arrays, by what they hold: the features, the segment numbers, the two layers' weights and biases. -/
abbrev aX (c : Dev nD) : FVec Ideal ⟨2, ![200000, 128]⟩ .f32 := m ((c : Thread nD τ).loc main_arg0)
abbrev aB (c : Dev nD) : IVec ⟨1, ![200000]⟩ 32 := m ((c : Thread nD τ).loc main_arg1)
abbrev aW1 (c : Dev nD) : FVec Ideal ⟨2, ![256, 128]⟩ .f32 := m ((c : Thread nD τ).loc main_arg2)
abbrev ab1 (c : Dev nD) : FVec Ideal ⟨1, ![128]⟩ .f32 := m ((c : Thread nD τ).loc main_arg3)
abbrev aW2 (c : Dev nD) : FVec Ideal ⟨2, ![128, 1]⟩ .f32 := m ((c : Thread nD τ).loc main_arg4)
abbrev ab2 (c : Dev nD) : FVec Ideal ⟨1, ![1]⟩ .f32 := m ((c : Thread nD τ).loc main_arg5)

/-- Every float argument holds reals only. -/
structure Reals (c : Dev nD) : Prop where
  x : AllReal (aX m c)
  w1 : AllReal (aW1 m c)
  b1 : AllReal (ab1 m c)
  w2 : AllReal (aW2 m c)
  b2 : AllReal (ab2 m c)

/-- The scores, the segment numbers and the differences of the argument arrays' rows. -/
abbrev sc (c : Dev nD) : ℕ → ℝ := scoreOf (aX m c) (aW1 m c) (ab1 m c) (aW2 m c) (ab2 m c)
abbrev sg (c : Dev nD) : ℕ → BitVec 32 := segOf (aB m c)
abbrev df (c : Dev nD) : Fin 128 → ℕ → ℝ := diffOf (aX m c)

variable {m}

theorem blk_e1 {c : Dev nD} (hR : Reals m c) (t : Fin cfg0.N) (n : Fin 4000) (k : Fin 128) :
    iblk m c 0 t (ix2 n k) = ((feat (aX m c) (4000 * t.val + n.val) k : ℝ) : EReal) := by
  have ht := (idx t).2.2.2.2.2.2.2
  exact (iblk0 m c t n k (by omega)).trans (feat_coe _ hR.x _ _ _)

theorem blk_e2 {c : Dev nD} (hR : Reals m c) (t : Fin cfg0.N) (n : Fin 4000) (k : Fin 128) :
    iblk m c 1 t (ix2 n k) = ((feat (aX m c) (100000 + (4000 * t.val + n.val)) k : ℝ) : EReal) := by
  have ht := (idx t).2.2.2.2.2.2.2
  exact (iblk1 m c t n k (by omega)).trans (feat_coe _ hR.x _ _ _)

theorem blk_seg (c : Dev nD) (t : Fin cfg0.N) (n : Fin 4000) :
    iblk m c 6 t (ix3 0 0 n) = sg m c (4000 * t.val + n.val) := by
  have ht := (idx t).2.2.2.2.2.2.2
  exact (iblk6 m c t n (by omega)).trans (segOf_eq _ _ _)

theorem wTop_at {c : Dev nD} (hR : Reals m c) (t : Fin cfg0.N) (k h : Fin 128) :
    wTop m c t (ix2 k h) = ((waOf (aW1 m c) k h : ℝ) : EReal) := by
  refine Eq.trans ?_ ((iblk2 m c t ⟨k.val, by omega⟩ h).trans (hR.w1.eq _))
  pointwise [wTop]

theorem wBot_at {c : Dev nD} (hR : Reals m c) (t : Fin cfg0.N) (k h : Fin 128) :
    wBot m c t (ix2 k h) = ((wbOf (aW1 m c) k h : ℝ) : EReal) := by
  refine Eq.trans ?_ ((iblk2 m c t ⟨128 + k.val, by omega⟩ h).trans (hR.w1.eq _))
  pointwise [wBot]

/-- The scores of the block of point `t`. -/
theorem blk_raw {c : Dev nD} (hR : Reals m c) (t : Fin cfg0.N) (n : Fin 4000) :
    k0_pay12 (F := Ideal) (iblk m c 0 t) (iblk m c 1 t) (wTop m c t) (wBot m c t) (wBot m c t) (iblk m c 3 t) (iblk m c 4 t) (iblk m c 5 t) (ix2 n 0)
      = ((sc m c (4000 * t.val + n.val) : ℝ) : EReal) :=
  pay12_at _ _ _ _ _ _ _ _ (fun n => feat (aX m c) (4000 * t.val + n.val)) (fun n => feat (aX m c) (100000 + (4000 * t.val + n.val)))
    (waOf (aW1 m c)) (wbOf (aW1 m c)) (b1Of (ab1 m c)) (w2Of (aW2 m c)) (b2Of (ab2 m c))
    (blk_e1 hR t) (blk_e2 hR t) (wTop_at hR t) (wBot_at hR t) (wBot_at hR t)
    (fun h => (iblk3 m c t h).trans (hR.b1.eq _)) (fun h => (iblk4 m c t h).trans (hR.w2.eq _))
    ((iblk5 m c t).trans (hR.b2.eq _)) n

/-- What a point adds, at the block's own shift: a real number `M₂`; the block's weighted sums and its sums of
    exponentials with `M₂` subtracted from the scores. -/
theorem blk_facts {c : Dev nD} (hR : Reals m c) (t : Fin cfg0.N) : ∃ M₂ : ℝ, blkMax m c t = (M₂ : EReal)
    ∧ (∀ (g : Fin 512) (d : Fin 128), k0_pay2 (F := Ideal) (iblk m c 0 t) (iblk m c 1 t) (blkExp m c t) (iblk m c 6 t) (ix2 g d)
        = ((∑ k : Fin 4000, if sg m c (4000 * t.val + k.val) = BitVec.ofNat 32 g.val
            then df m c d (4000 * t.val + k.val) * Real.exp (sc m c (4000 * t.val + k.val) - M₂) else 0 : ℝ) : EReal))
    ∧ (∀ g : Fin 512, k0_pay3 (F := Ideal) (blkExp m c t) (iblk m c 6 t) (ix2 g 0)
        = ((∑ k : Fin 4000, if sg m c (4000 * t.val + k.val) = BitVec.ofNat 32 g.val
            then (fun _ => 1 : ℕ → ℝ) (4000 * t.val + k.val) * Real.exp (sc m c (4000 * t.val + k.val) - M₂) else 0 : ℝ) : EReal)) := by
  obtain ⟨M₂, hM⟩ := pay13_real _ _ _ _ _ _ _ _ _ (blk_raw hR t)
  have he := pay14_at _ _ _ _ _ _ _ _ _ M₂ (blk_raw hR t) hM
  refine ⟨M₂, hM, fun g d => ?_, fun g => ?_⟩
  · refine (pay2_at _ _ _ _ _ _ _ (blk_e1 hR t) (blk_e2 hR t) he g d).trans ?_
    refine congrArg (fun z : ℝ => (z : EReal)) (Finset.sum_congr rfl fun n _ => ?_)
    rw [blk_seg]
    rfl
  · refine (pay3_at _ _ _ he g).trans ?_
    refine congrArg (fun z : ℝ => (z : EReal)) (Finset.sum_congr rfl fun n _ => ?_)
    rw [blk_seg, one_mul]

variable (m)

/-- The carried state after `T` blocks: some real shift, and at that shift the weighted sums and the sums of exponentials
    of the first `4000 * T` rows. -/
def Inv (c : Dev nD) (s : St) (T : ℕ) : Prop :=
  ∃ M : ℝ, s.2.2.2 (ix1 0) = (M : EReal)
    ∧ (∀ (g : Fin 512) (d : Fin 128), s.2.1 (ix2 g d) = ((esum (sg m c) (sc m c) (df m c d) (BitVec.ofNat 32 g.val) (4000 * T) M : ℝ) : EReal))
    ∧ ∀ g : Fin 512, s.2.2.1 (ix2 g 0) = ((esum (sg m c) (sc m c) (fun _ => 1) (BitVec.ofNat 32 g.val) (4000 * T) M : ℝ) : EReal)

variable {m}

/-- The first point establishes the invariant. -/
theorem inv_first {c : Dev nD} (hR : Reals m c) (t : Fin cfg0.N) (acc : St) (ht : t.val = 0) :
    Inv m c (stAt0 m c t.val t.isLt acc) (t.val + 1) := by
  obtain ⟨M, hM, hn, hd⟩ := blk_facts hR t
  have h0 : t.val % 25 = 0 := by omega
  have h1 : ¬1 ≤ t.val := by omega
  have h2 : ¬t.val % 25 = 24 := by omega
  refine ⟨M, ?_, fun g d => ?_, fun g => ?_⟩
  · rw [stA_max m c t acc h0 h1 h2]
    exact hM
  · rw [stA_num m c t acc h0 h1 h2]
    refine Eq.trans ?_ ((hn g d).trans ?_)
    · pointwise [k0_pay4]
    · rw [ht, esum_first]
  · rw [stA_den m c t acc h0 h1 h2]
    refine Eq.trans ?_ ((hd g).trans ?_)
    · pointwise [k0_pay5]
    · rw [ht, esum_first]

/-- The sums a later point forms from a state of which the invariant holds. -/
theorem step_facts {c : Dev nD} (hR : Reals m c) (t : Fin cfg0.N) (acc : St) (hI : Inv m c acc t.val) :
    ∃ M : ℝ, k0_pay6 (F := Ideal) (blkMax m c t) (acc.2.2.2 (ix1 0)) = (M : EReal)
    ∧ (∀ (g : Fin 512) (d : Fin 128), k0_pay9 (F := Ideal) (iblk m c 0 t) (iblk m c 1 t) (blkMax m c t) (blkExp m c t) (iblk m c 6 t) (acc.2.2.2 (ix1 0)) acc.2.1 (ix2 g d)
        = ((esum (sg m c) (sc m c) (df m c d) (BitVec.ofNat 32 g.val) (4000 * (t.val + 1)) M : ℝ) : EReal))
    ∧ ∀ g : Fin 512, k0_pay10 (F := Ideal) (blkMax m c t) (blkExp m c t) (iblk m c 6 t) (acc.2.2.2 (ix1 0)) acc.2.2.1 (ix2 g 0)
        = ((esum (sg m c) (sc m c) (fun _ => 1) (BitVec.ofNat 32 g.val) (4000 * (t.val + 1)) M : ℝ) : EReal) := by
  obtain ⟨M₂, hM, hn, hd⟩ := blk_facts hR t
  obtain ⟨M₁, hM₁, hN, hD⟩ := hI
  refine ⟨max M₁ M₂, ?_, fun g d => ?_, fun g => ?_⟩
  · rw [hM, hM₁]
    exact pay6_at _ _
  · rw [hM, hM₁]
    refine (pay9_at _ _ _ _ _ _ _ _ _ g d (hN g d) (hn g d)).trans ?_
    rw [esum_step]
  · rw [hM, hM₁]
    refine (pay10_at _ _ _ _ _ _ _ g (hD g) (hd g)).trans ?_
    rw [esum_step]

/-- A later point, not the last, keeps the invariant. -/
theorem inv_step {c : Dev nD} (hR : Reals m c) (t : Fin cfg0.N) (acc : St) (h1 : 1 ≤ t.val) (h24 : t.val < 24) (hI : Inv m c acc t.val) :
    Inv m c (stAt0 m c t.val t.isLt acc) (t.val + 1) := by
  obtain ⟨M, hM, hn, hd⟩ := step_facts hR t acc hI
  have h0 : ¬t.val % 25 = 0 := by omega
  have h2 : ¬t.val % 25 = 24 := by omega
  refine ⟨M, ?_, fun g d => ?_, fun g => ?_⟩
  · rw [stB_max m c t acc h0 h1 h2]
    exact hM
  · rw [stB_num m c t acc h0 h1 h2]
    exact hn g d
  · rw [stB_den m c t acc h0 h1 h2]
    exact hd g

/-- After every point before the last, the invariant holds of the carried state. -/
theorem inv_acc {c : Dev nD} (hR : Reals m c) : ∀ (n : ℕ) (h : 0 + n < cfg0.N), n < 24 →
    Inv m c (Pipeline.accAt (fun n h => stAt0 m c n h junk0) (stAt0 m c) 0 n h) (n + 1)
  | 0, h, _ => inv_first hR ⟨0, h⟩ junk0 rfl
  | n + 1, h, hn => by
    rw [Pipeline.accAt_succ]
    have := inv_step hR ⟨n + 1, by omega⟩ (Pipeline.accAt (fun n h => stAt0 m c n h junk0) (stAt0 m c) 0 n (by omega)) (by simp) hn
      (inv_acc hR n (by omega) (by omega))
    simpa using this

/-- The array the kernel leaves: the quotient of the sums over all rows, at some real shift. -/
theorem G7_at {c : Dev nD} (hR : Reals m c) : ∃ M : ℝ, ∀ (g : Fin 512) (d : Fin 128), G7 m c (ix2 g d)
    = ((esum (sg m c) (sc m c) (df m c d) (BitVec.ofNat 32 g.val) 100000 M
        * (if 0 < esum (sg m c) (sc m c) (fun _ => 1) (BitVec.ofNat 32 g.val) 100000 M
            then 1 / esum (sg m c) (sc m c) (fun _ => 1) (BitVec.ofNat 32 g.val) 100000 M else 0) : ℝ) : EReal) := by
  have hN : 24 < cfg0.N := lt_of_lt_of_eq (by decide) N_0.symm
  obtain ⟨M, hM, hn, hd⟩ := step_facts hR ⟨24, hN⟩ _ (inv_acc hR 23 (by omega) (by omega))
  refine ⟨M, fun g d => ?_⟩
  rw [G7_last, Pipeline.accAt_succ]
  have := congrFun (stC_out m c ⟨24, hN⟩ (Pipeline.accAt (fun n h => stAt0 m c n h junk0) (stAt0 m c) 0 23 (by omega))
    (by norm_num) (by norm_num) (by norm_num)) (ix2 g d)
  refine Eq.trans ?_ (this.trans (pay11_at _ _ _ _ g d (hn g d) (hd g)))
  congr 2

end Cert.KernelIdeal.Value
-- ==== Proof.Landing.lean ====
module

public import Idealize.ShloMosaic.Lib.Routing.OpsSet
public import Idealize.ShloMosaic.Lib.Pointwise

@[expose] public section

noncomputable section
open Idealize.ShloMosaic
namespace Cert.Soft

/-- A word that is read signed as a number below 512 is that number's word, and the other way round. -/
theorem word_iff (b : BitVec 32) (g : Fin 512) : b.toInt = (g.val : Int) ↔ b = BitVec.ofNat 32 g.val := by
  have hg := g.isLt
  constructor
  · intro h
    rw [← BitVec.ofInt_toInt (x := b), h]
    rfl
  · rintro rfl
    exact StableHlo.Predicate.toInt_ofNat_small _ (by omega)

section one
variable {N G : ℕ} (d : ScatterDims ⟨1, ![G]⟩ ⟨2, ![N, 1]⟩ ⟨1, ![N]⟩) (hiw : d.insertedWindowDims = [0])
  (hsd : d.scatterDimsToOperandDims = [0]) (hivd : d.indexVectorDim = 1)

include hsd hivd in
/-- The start of update `n` of a sum by segment number is the segment number of row `n`, read signed. -/
theorem start_seg (idx : IVec ⟨2, ![N, 1]⟩ 32) (n : Fin N) : d.start (ix1 n) idx 0 = (idx (ix2 n 0)).toInt := by
  have hm : (0 : Fin 1) ∈ d.scatterDimsToOperandDims := by rw [hsd]; exact List.mem_singleton.2 rfl
  unfold ScatterDims.start
  rw [dif_pos hm]
  refine congrArg (fun i => (idx i).toInt) (funext fun b => Fin.ext ?_)
  match b with
  | ⟨0, _⟩ =>
    unfold ScatterDims.siIdx
    rw [dif_neg (by rw [hivd]; exact Nat.zero_ne_one)]
    have q : ∀ x : Fin 1, (ix1 n x).val = n.val := fun x => by
      obtain rfl : x = 0 := Subsingleton.elim _ _
      rfl
    exact q _
  | ⟨1, _⟩ => exact congrArg Fin.val (Subsingleton.elim (α := Fin 1) _ _)

include hiw hsd hivd in
/-- Update `n` of a sum by segment number lands at segment `g` exactly when row `n` has that number. -/
theorem lands_seg (idx : IVec ⟨2, ![N, 1]⟩ 32) (n : Fin N) (g : Fin G) :
    d.resultIdx? (ix1 n) idx = some (ix1 g) ↔ (idx (ix2 n 0)).toInt = (g.val : Int) := by
  have hwin : d.window (ix1 n) 0 = 0 := by
    unfold ScatterDims.window
    rw [dif_neg fun h => (of_decide_eq_true (List.mem_filter.1 h).2) (by rw [hiw]; exact List.mem_singleton.2 rfl)]
  refine (Routing.resultIdx?_ix1 d (ix1 n) idx g).trans ?_
  rw [start_seg d hsd hivd, hwin]
  omega

end one

section two
variable {N G D : ℕ} (d : ScatterDims ⟨2, ![G, D]⟩ ⟨2, ![N, 1]⟩ ⟨2, ![N, D]⟩) (huw : d.updateWindowDims = [1])
  (hiw : d.insertedWindowDims = [0]) (hsd : d.scatterDimsToOperandDims = [0]) (hivd : d.indexVectorDim = 1)

include huw hsd hivd in
/-- The start of row `n`'s updates of a sum of rows by segment number is the row's segment number, read signed. -/
theorem start_row (idx : IVec ⟨2, ![N, 1]⟩ 32) (n : Fin N) (e : Fin D) : d.start (ix2 n e) idx 0 = (idx (ix2 n 0)).toInt := by
  have hm : (0 : Fin 2) ∈ d.scatterDimsToOperandDims := by rw [hsd]; exact List.mem_singleton.2 rfl
  have hus : d.uScatter = [0] := by
    show (⟨2, ![N, D]⟩ : Shape).kept d.updateWindowDims = _
    rw [huw]
    rfl
  unfold ScatterDims.start
  rw [dif_pos hm]
  refine congrArg (fun i => (idx i).toInt) (funext fun b => Fin.ext ?_)
  match b with
  | ⟨0, _⟩ =>
    unfold ScatterDims.siIdx
    rw [dif_neg (by rw [hivd]; exact Nat.zero_ne_one)]
    have q : ∀ x : Fin 2, x ∈ d.uScatter → (ix2 n e x).val = n.val := fun x hx => by
      rw [hus] at hx
      obtain rfl : x = 0 := List.mem_singleton.1 hx
      rfl
    exact q _ (List.getElem_mem _)
  | ⟨1, _⟩ => exact congrArg Fin.val (Subsingleton.elim (α := Fin 1) _ _)

include huw hiw hsd hivd in
/-- Entry `(n, e)` of a sum of rows by segment number lands at `(g, f)` exactly when row `n` has number `g` and the columns agree. -/
theorem lands_row (idx : IVec ⟨2, ![N, 1]⟩ 32) (n : Fin N) (e : Fin D) (g : Fin G) (f : Fin D) :
    d.resultIdx? (ix2 n e) idx = some (ix2 g f) ↔ (idx (ix2 n 0)).toInt = (g.val : Int) ∧ e = f := by
  have hkept : d.sKept = [1] := by
    show (⟨2, ![G, D]⟩ : Shape).kept d.insertedWindowDims = _
    rw [hiw]
    rfl
  have hwin0 : d.window (ix2 n e) 0 = 0 := by
    unfold ScatterDims.window
    rw [dif_neg fun h => (of_decide_eq_true (List.mem_filter.1 h).2) (by rw [hiw]; exact List.mem_singleton.2 rfl)]
  have hwin1 : d.window (ix2 n e) 1 = e.val := by
    unfold ScatterDims.window
    rw [dif_pos (by rw [hkept]; exact List.mem_singleton.2 rfl)]
    have q : ∀ x : Fin 2, x ∈ d.updateWindowDims → (ix2 n e x).val = e.val := fun x hx => by
      rw [huw] at hx
      obtain rfl : x = 1 := List.mem_singleton.1 hx
      rfl
    exact q _ (List.getElem_mem _)
  have hstart1 : d.start (ix2 n e) idx 1 = 0 := by
    unfold ScatterDims.start
    rw [dif_neg fun h => by rw [hsd] at h; exact absurd (List.mem_singleton.1 h) (by decide : (1 : Fin 2) ≠ 0)]
  refine (Routing.resultIdx?_ix2 d (ix2 n e) idx g f).trans ?_
  rw [start_row d huw hsd hivd, hwin0, hwin1, hstart1, Fin.ext_iff]
  omega

end two

section sums
variable {N : ℕ}

/-- A sum by segment number over zeros, at segment `g`: the sum of the updates of the rows with that number. -/
theorem sum_seg (d : ScatterDims ⟨1, ![512]⟩ ⟨2, ![N, 1]⟩ ⟨1, ![N]⟩) (hiw : d.insertedWindowDims = [0])
    (hsd : d.scatterDimsToOperandDims = [0]) (hivd : d.indexVectorDim = 1) (x : FVec Ideal ⟨1, ![512]⟩ .f32)
    (hx : ∀ i, x i = (0 : EReal)) (idx : IVec ⟨2, ![N, 1]⟩ 32) (upd : FVec Ideal ⟨1, ![N]⟩ .f32) (g : Fin 512) :
    Host.scatterAdd d x idx upd (ix1 g) = ∑ n : Fin N, if idx (ix2 n 0) = BitVec.ofNat 32 g.val then upd (ix1 n) else (0 : EReal) := by
  show x (ix1 g) + ∑ j ∈ Finset.univ.filter (fun j => d.resultIdx? j idx = some (ix1 g)), upd j = _
  rw [hx, zero_add, Finset.sum_filter, sum_idx1]
  refine Finset.sum_congr rfl fun n _ => if_congr ?_ rfl rfl
  rw [lands_seg d hiw hsd hivd, word_iff]

/-- A sum of rows by segment number over zeros, at segment `g` and column `f`: the sum of that column of the rows with that number. -/
theorem sum_row {D : ℕ} (d : ScatterDims ⟨2, ![512, D]⟩ ⟨2, ![N, 1]⟩ ⟨2, ![N, D]⟩) (huw : d.updateWindowDims = [1])
    (hiw : d.insertedWindowDims = [0]) (hsd : d.scatterDimsToOperandDims = [0]) (hivd : d.indexVectorDim = 1)
    (x : FVec Ideal ⟨2, ![512, D]⟩ .f32) (hx : ∀ i, x i = (0 : EReal)) (idx : IVec ⟨2, ![N, 1]⟩ 32)
    (upd : FVec Ideal ⟨2, ![N, D]⟩ .f32) (g : Fin 512) (f : Fin D) :
    Host.scatterAdd d x idx upd (ix2 g f)
      = ∑ n : Fin N, if idx (ix2 n 0) = BitVec.ofNat 32 g.val then upd (ix2 n f) else (0 : EReal) := by
  show x (ix2 g f) + ∑ j ∈ Finset.univ.filter (fun j => d.resultIdx? j idx = some (ix2 g f)), upd j = _
  rw [hx, zero_add, Finset.sum_filter, sum_idx2]
  refine Finset.sum_congr rfl fun n _ => ?_
  rw [Finset.sum_eq_single f]
  · refine if_congr ?_ rfl rfl
    rw [lands_row d huw hiw hsd hivd, word_iff]
    exact and_iff_left rfl
  · intro e _ he
    exact if_neg fun h => he ((lands_row d huw hiw hsd hivd idx n e g f).1 h).2
  · intro h
    exact absurd (Finset.mem_univ f) h

/-- A look-up by segment number, at a row with number `g`: the table's entry `g`. -/
theorem look_seg (d : GatherDims ⟨1, ![512]⟩ ⟨2, ![N, 1]⟩ ⟨1, ![N]⟩) (hcoll : d.collapsedSliceDims = [0])
    (hob : d.operandBatchingDims = []) (hsim : d.startIndexMap = [0]) (hivd : d.indexVectorDim = 1)
    (x : FVec Ideal ⟨1, ![512]⟩ .f32) (idx : IVec ⟨2, ![N, 1]⟩ 32) (n : Fin N) (g : Fin 512)
    (h : idx (ix2 n 0) = BitVec.ofNat 32 g.val) : Host.gather d x idx (ix1 n) = x (ix1 g) := by
  have e := Routing.gather_take1 d hcoll hob hsim hivd x idx n g (by rw [← ix2_eq_valueIdx]; exact h) (by norm_num)
  rwa [← ix1_eq_valueIdx, ← ix1_eq_valueIdx] at e

end sums
end Cert.Soft
-- ==== Proof.Reference.lean ====
module

public import proofs.«01_k».proof.Proof.Gen.ReferenceIdeal.Run
public import proofs.«01_k».proof.Proof.Data
public import proofs.«01_k».proof.Proof.Landing
public import Idealize.ShloMosaic.Lib.Tactic.CleanTypes

@[expose] public section

set_option maxRecDepth 16384
noncomputable section
open Idealize.ShloMosaic Idealize.ShloMosaic.TcCoe Idealize.SL.Sem
namespace Cert.ReferenceIdeal.Value
open Cert.ReferenceIdeal Cert.ReferenceIdeal.Gen Cert.Soft

variable (X : FVec Ideal S200000x128 .f32) (B : IVec S200000 32) (W1 : FVec Ideal S256x128 .f32) (b1 : FVec Ideal S128 .f32)
  (W2 : FVec Ideal S128x1 .f32) (b2 : FVec Ideal S1 .f32)

/-- The first half of the features. -/
def rE1 : FVec Ideal S100000x128 .f32 := extractStridedSlice S100000x128 ![0, 0] X slices_S200000x128_S100000x128_0_0

/-- The first half less the second. -/
def rDiff : FVec Ideal S100000x128 .f32 :=
  subf (rE1 X) (extractStridedSlice S100000x128 ![100000, 0] X slices_S200000x128_S100000x128_100000_0)

/-- The segment numbers of the first half. -/
def rSeg : IVec S100000 32 := extractStridedSlice S100000 ![0] B slices_S200000_S100000_0

/-- The scores. -/
def rRaw : FVec Ideal S100000 .f32 :=
  shapeCast _ (addf (Host.dotGeneral dot_S100000x128_S128x1_S100000x1_1_0_0_1_n_n none
    (maximumf (addf (Host.dotGeneral dot_S100000x256_S256x128_S100000x128_1_0_0_1_n_n none
        (concatenate S100000x256 1 [⟨S100000x128, rE1 X⟩, ⟨S100000x128, rDiff X⟩] concatenates_S100000x128_S100000x128_S100000x256_d1) W1)
      (broadcastInDim S100000x128 ![0, 1] bcast_S1x128_S100000x128_0_1 (broadcastInDim S1x128 ![1] bcast_S128_S1x128_1 b1)))
      (broadcastInDim S100000x128 ![] bcast_S_S100000x128 (constant S_ .f32 0x00000000#32))) W2)
    (broadcastInDim S100000x1 ![0, 1] bcast_S1x1_S100000x1_0_1 (broadcastInDim S1x1 ![1] bcast_S1_S1x1_1 b2))) shapeCasts_S100000x1_S100000

/-- The scores masked by membership, one row per segment. -/
def rMask : FVec Ideal S512x100000 .f32 :=
  select (cmpi .eq (broadcastInDim S512x100000 ![0, 1] bcast_S1x100000_S512x100000_0_1 (broadcastInDim S1x100000 ![1] bcast_S100000_S1x100000_1 (rSeg B)))
      (broadcastInDim S512x100000 ![0, 1] bcast_S512x1_S512x100000_0_1 (broadcastInDim S512x1 ![0] bcast_S512_S512x1_0 (iotaInDim S512 32 0))))
    (broadcastInDim S512x100000 ![0, 1] bcast_S1x100000_S512x100000_0_1 (broadcastInDim S1x100000 ![1] bcast_S100000_S1x100000_1 (rRaw X W1 b1 W2 b2)))
    (broadcastInDim S512x100000 ![] bcast_S_S512x100000 (id (constant S_ .f32 0xFF800000#32)))

/-- The segments' maxima. -/
def rMax : FVec Ideal S512 .f32 :=
  Host.reduce FloatOps.maximumf (rMask X B W1 b1 W2 b2) (constant S_ .f32 0xFF800000#32) reducesTo_S512x100000_S512_d1 h_S_

/-- The index words of a look-up by segment number. -/
def rIdx : IVec S100000x1 32 :=
  broadcastInDim S100000x1 ![0] bcast_S100000_S100000x1_0
    (select (cmpi .slt (rSeg B) (broadcastInDim S100000 ![] bcast_S_S100000 (constantI S_ 32 0#32)))
      (addi (rSeg B) (broadcastInDim S100000 ![] bcast_S_S100000 (constantI S_ 32 512#32))) (rSeg B))

/-- The index words of a sum by segment number. -/
def rLand : IVec S100000x1 32 := broadcastInDim S100000x1 ![0] bcast_S100000_S100000x1_0 (rSeg B)

/-- The exponentials of the scores less their segments' maxima. -/
def rExp : FVec Ideal S100000 .f32 :=
  Host.exp (subf (rRaw X W1 b1 W2 b2) (Host.gather gather_S512_S100000x1_S100000_n_0_n_n_0_1_1 (rMax X B W1 b1 W2 b2) (rIdx B)))

/-- The segments' sums of exponentials. -/
def rDen : FVec Ideal S512 .f32 :=
  Host.scatterAdd scatter_S512_S100000x1_S100000_n_0_0_1 (broadcastInDim S512 ![] bcast_S_S512 (constant S_ .f32 0x00000000#32)) (rLand B) (rExp X B W1 b1 W2 b2)

/-- The normalized exponentials. -/
def rAtt : FVec Ideal S100000 .f32 :=
  Host.divf (rExp X B W1 b1 W2 b2) (Host.gather gather_S512_S100000x1_S100000_n_0_n_n_0_1_1 (rDen X B W1 b1 W2 b2) (rIdx B))

/-- What each row contributes to its segment. -/
def rUpd : FVec Ideal S100000x128 .f32 :=
  mulf (broadcastInDim S100000x128 ![0, 1] bcast_S100000x1_S100000x128_0_1 (broadcastInDim S100000x1 ![0] bcast_S100000_S100000x1_0 (rAtt X B W1 b1 W2 b2))) (rDiff X)

/-- The result. -/
def rOut : FVec Ideal S512x128 .f32 :=
  Host.scatterAdd scatter_S512x128_S100000x1_S100000x128_1_0_0_1 (broadcastInDim S512x128 ![] bcast_S_S512x128 (constant S_ .f32 0x00000000#32)) (rLand B) (rUpd X B W1 b1 W2 b2)

/-- The reference's run leaves the result of the stages above. -/
theorem res_eq (m : (ℓ : Loc nD τ sig) → Buf (Elt Ideal) ℓ) (c : Dev nD) :
    res_main_v50 m c = rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-- The bit pattern of minus infinity reads as the least extended real. -/
theorem neg_inf : Ideal.ofBits .f32 0xFF800000#32 = ⊥ := by simp [Ideal.ofBits, Ideal.ieee]

section reals
variable (hX : AllReal X) (hW1 : AllReal W1) (hb1 : AllReal b1) (hW2 : AllReal W2) (hb2 : AllReal b2)

include hX in
/-- The differences are real. -/
theorem rDiff_at (n : Fin 100000) (d : Fin 128) : rDiff X (ix2 n d) = (diffOf X d n.val : EReal) := by
  have hn := n.isLt
  pointwise [rDiff, rE1]
  rw [feat_coe X hX _ (by omega), feat_coe X hX _ (by omega), diffOf, EReal.coe_sub]

include hX hW1 hb1 hW2 hb2 in
/-- The scores are real. -/
theorem rRaw_at (n : Fin 100000) : rRaw X W1 b1 W2 b2 (ix1 n) = (scoreOf X W1 b1 W2 b2 n.val : EReal) := by
  have hn := n.isLt
  pointwise [rRaw, rDiff, rE1]
  rw [scoreOf, ← rawOf_diff, EReal.coe_add, coe_sum, hb2.eq (ix1 0)]
  refine congrArg₂ (fun x y : EReal => x + y) (Finset.sum_congr rfl fun h _ => ?_) rfl
  rw [EReal.coe_mul, coe_max, EReal.coe_add, EReal.coe_add, coe_sum, coe_sum, hW2.eq (ix2 h 0), hb1.eq (ix1 h), EReal.coe_zero]
  refine congrArg₂ (fun x y : EReal => max (x + y) 0 * _) (congrArg₂ (fun x y : EReal => x + y)
    (Finset.sum_congr rfl fun k _ => ?_) (Finset.sum_congr rfl fun k _ => ?_)) rfl
  · rw [EReal.coe_mul, feat_coe X hX _ (by omega), hW1.eq]
    rfl
  · rw [EReal.coe_mul, EReal.coe_sub, feat_coe X hX _ (by omega), feat_coe X hX _ (by omega), hW1.eq]
    rfl

/-- The index word of row `n`'s sum is its segment number. -/
theorem rLand_at (n : Fin 100000) : rLand B (ix2 n 0) = segOf B n.val := by
  have hn := n.isLt
  pointwise [rLand, rSeg]
  exact segOf_eq B _ _

/-- The index word of row `n`'s look-up is its segment number, when that is one of the segments'. -/
theorem rIdx_at (n : Fin 100000) (g : Fin 512) (h : segOf B n.val = BitVec.ofNat 32 g.val) : rIdx B (ix2 n 0) = BitVec.ofNat 32 g.val := by
  have hn := n.isLt
  have hg := g.isLt
  pointwise [rIdx, rSeg]
  rw [segOf_eq B _ (by omega), h]
  refine Routing.wrap_of_lt _ _ ?_
  rw [BitVec.toNat_ofNat, Nat.mod_eq_of_lt (by omega)]
  omega

include hX hW1 hb1 hW2 hb2 in
/-- The maximum of a segment that has a row is real. -/
theorem rMax_at (g : Fin 512) (n : Fin 100000) (h : segOf B n.val = BitVec.ofNat 32 g.val) :
    ∃ M : ℝ, rMax X B W1 b1 W2 b2 (ix1 g) = (M : EReal) := by
  pointwise [rMax, rMask, rSeg]
  rw [neg_inf]
  refine fold_max_univ _ (fun i => ?_) n ?_
  · rw [rRaw_at X W1 b1 W2 b2 hX hW1 hb1 hW2 hb2]
    unfold Scalar.select
    split
    · exact EReal.coe_ne_top _
    · show Ideal.ofBits .f32 0xFF800000#32 ≠ ⊤
      rw [neg_inf]
      exact bot_ne_top
  · rw [rRaw_at X W1 b1 W2 b2 hX hW1 hb1 hW2 hb2, segOf_eq B _ (by omega), h]
    unfold Scalar.select
    rw [if_pos (by simp [IntOp.cmpi])]
    exact EReal.coe_ne_bot _

section segment
variable (g : Fin 512) (M : ℝ) (hM : rMax X B W1 b1 W2 b2 (ix1 g) = (M : EReal))

include hX hW1 hb1 hW2 hb2 hM in
/-- The exponential of a row of the segment. -/
theorem rExp_at (n : Fin 100000) (h : segOf B n.val = BitVec.ofNat 32 g.val) :
    rExp X B W1 b1 W2 b2 (ix1 n) = (Real.exp (scoreOf X W1 b1 W2 b2 n.val - M) : EReal) := by
  pointwise [rExp]
  rw [rRaw_at X W1 b1 W2 b2 hX hW1 hb1 hW2 hb2, look_seg _ rfl rfl rfl rfl _ _ n g (rIdx_at B n g h), hM, ← EReal.coe_sub, Ideal.exp_coe]

include hX hW1 hb1 hW2 hb2 hM in
/-- The segment's sum of exponentials. -/
theorem rDen_at : rDen X B W1 b1 W2 b2 (ix1 g)
    = (esum (segOf B) (scoreOf X W1 b1 W2 b2) (fun _ => 1) (BitVec.ofNat 32 g.val) 100000 M : EReal) := by
  unfold rDen
  rw [sum_seg _ rfl rfl rfl _ (fun i => by pointwise), esum, Finset.sum_range, coe_sum]
  refine Finset.sum_congr rfl fun n _ => ?_
  rw [rLand_at]
  by_cases h : segOf B n.val = BitVec.ofNat 32 g.val
  · rw [if_pos h, if_pos h, rExp_at X B W1 b1 W2 b2 hX hW1 hb1 hW2 hb2 g M hM n h, one_mul]
  · rw [if_neg h, if_neg h, EReal.coe_zero]

include hX hW1 hb1 hW2 hb2 hM in
/-- The contribution of a row of the segment. -/
theorem rUpd_at (n : Fin 100000) (d : Fin 128) (h : segOf B n.val = BitVec.ofNat 32 g.val) :
    rUpd X B W1 b1 W2 b2 (ix2 n d) = ((Real.exp (scoreOf X W1 b1 W2 b2 n.val - M)
      / esum (segOf B) (scoreOf X W1 b1 W2 b2) (fun _ => 1) (BitVec.ofNat 32 g.val) 100000 M * diffOf X d n.val : ℝ) : EReal) := by
  have hp := esum_one_pos (segOf B) (scoreOf X W1 b1 W2 b2) (BitVec.ofNat 32 g.val) 100000 M n.val n.isLt h
  pointwise [rUpd, rAtt]
  rw [rDiff_at X hX, rExp_at X B W1 b1 W2 b2 hX hW1 hb1 hW2 hb2 g M hM n h, look_seg _ rfl rfl rfl rfl _ _ n g (rIdx_at B n g h),
    rDen_at X B W1 b1 W2 b2 hX hW1 hb1 hW2 hb2 g M hM, Ideal.div_coe hp.ne', ← EReal.coe_mul, ← EReal.coe_mul, mul_one_div]

end segment

include hX hW1 hb1 hW2 hb2 in
/-- The reference's result, at segment `g` and column `d`: the rows of the segment, each at its share of the segment's exponentials. -/
theorem rOut_at (g : Fin 512) (d : Fin 128) : ∃ M : ℝ, rOut X B W1 b1 W2 b2 (ix2 g d)
    = ((∑ j ∈ Finset.range 100000, if segOf B j = BitVec.ofNat 32 g.val then Real.exp (scoreOf X W1 b1 W2 b2 j - M)
      / esum (segOf B) (scoreOf X W1 b1 W2 b2) (fun _ => 1) (BitVec.ofNat 32 g.val) 100000 M * diffOf X d j else 0 : ℝ) : EReal) := by
  have hs : rOut X B W1 b1 W2 b2 (ix2 g d)
      = ∑ n : Fin 100000, if segOf B n.val = BitVec.ofNat 32 g.val then rUpd X B W1 b1 W2 b2 (ix2 n d) else (0 : EReal) := by
    unfold rOut
    rw [sum_row _ rfl rfl rfl rfl _ (fun i => by pointwise)]
    exact Finset.sum_congr rfl fun n _ => by rw [rLand_at]
  by_cases hex : ∃ n : Fin 100000, segOf B n.val = BitVec.ofNat 32 g.val
  · obtain ⟨n₀, h₀⟩ := hex
    obtain ⟨M, hM⟩ := rMax_at X B W1 b1 W2 b2 hX hW1 hb1 hW2 hb2 g n₀ h₀
    refine ⟨M, ?_⟩
    rw [hs, Finset.sum_range, coe_sum]
    refine Finset.sum_congr rfl fun n _ => ?_
    by_cases h : segOf B n.val = BitVec.ofNat 32 g.val
    · rw [if_pos h, if_pos h, rUpd_at X B W1 b1 W2 b2 hX hW1 hb1 hW2 hb2 g M hM n d h]
    · rw [if_neg h, if_neg h, EReal.coe_zero]
  · refine ⟨0, ?_⟩
    rw [hs, Finset.sum_range, coe_sum]
    refine Finset.sum_congr rfl fun n _ => ?_
    have h : ¬ segOf B n.val = BitVec.ofNat 32 g.val := fun h => hex ⟨n, h⟩
    rw [if_neg h, if_neg h, EReal.coe_zero]

end reals
end Cert.ReferenceIdeal.Value
-- ==== Proof.Finite.lean ====
module

public import proofs.«01_k».proof.Defs
public import proofs.«01_k».proof.Proof.Gen.Pre_finite
public import proofs.«01_k».proof.Proof.Data

@[expose] public section

set_option maxRecDepth 16384
noncomputable section
open Idealize.ShloMosaic
namespace Cert.Soft
open Cert.Pre_finite Cert.Pre_finite.Gen

/-- The bit pattern of plus infinity reads as the greatest extended real. -/
theorem pos_inf : Ideal.ofBits .f32 0x7F800000#32 = ⊤ := by simp [Ideal.ofBits, Ideal.ieee]

/-- The conjunction of two bits is one exactly when both are. -/
theorem and_one (a b : BitVec 1) : IntOp.andi a b = 1#1 ↔ a = 1#1 ∧ b = 1#1 := by revert a b; decide

/-- A conjunction of bits along a list that comes out one has every bit one. -/
theorem fold_one {ι : Type*} (f : ι → BitVec 1) (l : List ι) (b : BitVec 1) (h : l.foldl (fun r i => IntOp.andi r (f i)) b = 1#1) :
    b = 1#1 ∧ ∀ i ∈ l, f i = 1#1 := by
  induction l generalizing b with
  | nil => exact ⟨h, fun i hi => absurd hi List.not_mem_nil⟩
  | cons a l ih =>
    obtain ⟨hb, hl⟩ := ih _ h
    obtain ⟨hb, ha⟩ := (and_one _ _).1 hb
    refine ⟨hb, fun i hi => ?_⟩
    rcases List.mem_cons.1 hi with rfl | hi
    · exact ha
    · exact hl i hi

/-- An extended real whose absolute value is below plus infinity is a real. -/
theorem real_of_abs (x : EReal) (h : max x (-x) < ⊤) : ∃ r : ℝ, x = (r : EReal) := by
  induction x with
  | bot => exact absurd h (by simp)
  | coe r => exact ⟨r, rfl⟩
  | top => exact absurd h (by simp)

/-- The precondition's test of one array, when it holds, says that every element is a real. -/
theorem allReal_of {S : Shape} {axes : List (Fin S.rank)} (x : FVec Ideal S .f32) (hb : S_.BroadcastsInDim S (![] : Fin 0 → Fin S.rank))
    (h : S.ReducesTo axes S_) (hu : 0 < S_.numel)
    (e : Host.reduce IntOp.andi (cmpf .olt (Host.absf x) (broadcastInDim S ![] hb (constant S_ .f32 0x7F800000#32))) (constantI S_ 1 1#1) h hu ix0 = 1#1) :
    AllReal x := by
  intro i
  rw [Host.reduce_eq_foldl] at e
  have hi := (fold_one _ _ _ e).2 i (List.mem_filter.2 ⟨List.mem_map.2 ⟨S.rowMajor i, List.mem_finRange _, S.rowMajor.symm_apply_apply i⟩,
    decide_eq_true (funext fun a => a.elim0)⟩)
  refine real_of_abs (x i) ?_
  by_contra hn
  have hc : FloatOps.cmpf (F := Ideal) .olt (max (x i) (-(x i))) (Ideal.ofBits .f32 0x7F800000#32) = 1#1 := hi
  rw [pos_inf] at hc
  revert hc
  simp [FloatOps.cmpf, Ideal.cmp, hn]

/-- Under the precondition every float argument is an array of reals. -/
theorem reals_of (X : FVec Ideal S200000x128 .f32) (B : IVec S200000 32) (W1 : FVec Ideal S256x128 .f32) (b1 : FVec Ideal S128 .f32)
    (W2 : FVec Ideal S128x1 .f32) (b2 : FVec Ideal S1 .f32) (h : Cert.Pre_finite.fn (F := Ideal) X B W1 b1 W2 b2 = fun _ => 1#1) :
    AllReal X ∧ AllReal W1 ∧ AllReal b1 ∧ AllReal W2 ∧ AllReal b2 := by
  have e := congrFun h ix0
  obtain ⟨e, e5⟩ := (and_one _ _).1 e
  obtain ⟨e, e4⟩ := (and_one _ _).1 e
  obtain ⟨e, e3⟩ := (and_one _ _).1 e
  obtain ⟨e1, e2⟩ := (and_one _ _).1 e
  exact ⟨allReal_of X _ _ _ e1, allReal_of W1 _ _ _ e2, allReal_of b1 _ _ _ e3, allReal_of W2 _ _ _ e4, allReal_of b2 _ _ _ e5⟩

end Cert.Soft
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Invariant
public import proofs.«01_k».proof.Proof.Reference
public import proofs.«01_k».proof.Proof.Finite
public import Idealize.ShloMosaic.Adequacy
public import Idealize.ShloMosaic.Init
public import Idealize.ShloMosaic.Lib.Quiescent

@[expose] public section

set_option maxRecDepth 16384
noncomputable section
namespace Cert.Proof
open Idealize.ShloMosaic Idealize.SL.Sem Cert.Soft

/-- The reference runs, leaves its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that the precondition admits. -/
theorem quiescent_ReferenceIdeal_pre_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel's float arguments are arrays of reals. -/
theorem reals_of_pre (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Value.Reals m c := by
  obtain ⟨hX, hW1, hb1, hW2, hb2⟩ := reals_of _ _ _ _ _ _ (h c)
  exact ⟨hX, hW1, hb1, hW2, hb2⟩

/-- On arguments that are real the reference's result is the kernel's. -/
theorem same_result (m : (ℓ : Loc Cert.KernelIdeal.nD Cert.KernelIdeal.τ Cert.KernelIdeal.sig) → Buf (Elt Ideal) ℓ)
    (c : Dev Cert.KernelIdeal.nD) (hR : Cert.KernelIdeal.Value.Reals m c) :
    Cert.ReferenceIdeal.Value.rOut (Cert.KernelIdeal.Value.aX m c) (Cert.KernelIdeal.Value.aB m c) (Cert.KernelIdeal.Value.aW1 m c)
      (Cert.KernelIdeal.Value.ab1 m c) (Cert.KernelIdeal.Value.aW2 m c) (Cert.KernelIdeal.Value.ab2 m c) = Cert.KernelIdeal.Value.G7 m c := by
  obtain ⟨M, hM⟩ := Cert.KernelIdeal.Value.G7_at hR
  have key : ∀ (g : Fin 512) (d : Fin 128), Cert.ReferenceIdeal.Value.rOut (Cert.KernelIdeal.Value.aX m c) (Cert.KernelIdeal.Value.aB m c)
      (Cert.KernelIdeal.Value.aW1 m c) (Cert.KernelIdeal.Value.ab1 m c) (Cert.KernelIdeal.Value.aW2 m c) (Cert.KernelIdeal.Value.ab2 m c) (ix2 g d)
      = Cert.KernelIdeal.Value.G7 m c (ix2 g d) := by
    intro g d
    obtain ⟨mx, e⟩ := Cert.ReferenceIdeal.Value.rOut_at (Cert.KernelIdeal.Value.aX m c) (Cert.KernelIdeal.Value.aB m c)
      (Cert.KernelIdeal.Value.aW1 m c) (Cert.KernelIdeal.Value.ab1 m c) (Cert.KernelIdeal.Value.aW2 m c) (Cert.KernelIdeal.Value.ab2 m c)
      hR.x hR.w1 hR.b1 hR.w2 hR.b2 g d
    exact e.trans ((congrArg (fun z : ℝ => (z : EReal)) (esum_final _ _ _ _ _ M mx).symm).trans (hM g d).symm)
  funext i
  rw [eq_ix2 i]
  exact key _ _

/-- From memories that agree on the arguments the kernel and the reference both run and leave equal results. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Value.res_eq]
  obtain ⟨e0, e1, e2, e3, e4, e5⟩ := hagree c
  rw [e0, e1, e2, e3, e4, e5]
  exact same_result m c (reals_of_pre m hpre c)

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite, (trivial : preserves_Kernel_KernelIdeal),
  algebraic_KernelIdeal_ReferenceIdeal_pre_finite⟩

end Cert.Proof
end
